-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x24x24 : Shape := ⟨4, ![32, 768, 24, 24]⟩
abbrev S512x768 : Shape := ⟨2, ![512, 768]⟩
abbrev S32x24x24x768 : Shape := ⟨4, ![32, 24, 24, 768]⟩
abbrev S32x576x768 : Shape := ⟨3, ![32, 576, 768]⟩
abbrev S8x576x768 : Shape := ⟨3, ![8, 576, 768]⟩
abbrev S24x768 : Shape := ⟨2, ![24, 768]⟩
abbrev S4x576x768 : Shape := ⟨3, ![4, 576, 768]⟩
abbrev S576x768 : Shape := ⟨2, ![576, 768]⟩
abbrev S24x1x768 : Shape := ⟨3, ![24, 1, 768]⟩
abbrev S1x24x768 : Shape := ⟨3, ![1, 24, 768]⟩
abbrev S24x24x768 : Shape := ⟨3, ![24, 24, 768]⟩
abbrev S1x576x768 : Shape := ⟨3, ![1, 576, 768]⟩

abbrev nBuf : Space → Nat
  | .hbm => 6
  | .vmem => 7
  | .smem => 0
  | _ => 0

abbrev bufTy : (tb : Table) → Fin (tcTables nBuf tb) → BufTy
  | .hbm, ⟨0, _⟩ => ⟨S32x768x24x24, .f32⟩
  | .hbm, ⟨1, _⟩ => ⟨S512x768, .f32⟩
  | .hbm, ⟨2, _⟩ => ⟨S512x768, .f32⟩
  | .hbm, ⟨3, _⟩ => ⟨S32x24x24x768, .f32⟩
  | .hbm, ⟨4, _⟩ => ⟨S32x576x768, .f32⟩
  | .hbm, ⟨5, _⟩ => ⟨S32x576x768, .f32⟩
  | .local _ .vmem, ⟨0, _⟩ => ⟨S8x576x768, .f32⟩
  | .local _ .vmem, ⟨1, _⟩ => ⟨S8x576x768, .f32⟩
  | .local _ .vmem, ⟨2, _⟩ => ⟨S24x768, .f32⟩
  | .local _ .vmem, ⟨3, _⟩ => ⟨S24x768, .f32⟩
  | .local _ .vmem, ⟨4, _⟩ => ⟨S4x576x768, .f32⟩
  | .local _ .vmem, ⟨5, _⟩ => ⟨S4x576x768, .f32⟩
  | .local _ .vmem, ⟨6, _⟩ => ⟨S576x768, .f32⟩
  | _, _ => ⟨S32x768x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 32 := Scalar.muli v12 c4_i32
  let v14 : Index := Scalar.indexCast v13
  let c0 : Index := 0#32
  let c0_5 : Index := 0#32
  ![v14.toNat, 0, 0]
def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x576x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x768x24x24 : Shape := ⟨4, ![32, 768, 24, 24]⟩
abbrev S512x768 : Shape := ⟨2, ![512, 768]⟩
abbrev S24 : Shape := ⟨1, ![24]⟩
abbrev S1x24 : Shape := ⟨2, ![1, 24]⟩
abbrev S_ : Shape := ⟨0, ![]⟩
abbrev S1x24x1 : Shape := ⟨3, ![1, 24, 1]⟩
abbrev S1 : Shape := ⟨1, ![1]⟩
abbrev S1x1x1 : Shape := ⟨3, ![1, 1, 1]⟩
abbrev S1x24x768 : Shape := ⟨3, ![1, 24, 768]⟩
abbrev S1x24x1x768 : Shape := ⟨4, ![1, 24, 1, 768]⟩
abbrev S1x1x24x768 : Shape := ⟨4, ![1, 1, 24, 768]⟩
abbrev S1x24x24x768 : Shape := ⟨4, ![1, 24, 24, 768]⟩
abbrev S1x576x768 : Shape := ⟨3, ![1, 576, 768]⟩
abbrev S32x24x24x768 : Shape := ⟨4, ![32, 24, 24, 768]⟩
abbrev S32x576x768 : Shape := ⟨3, ![32, 576, 768]⟩

abbrev nBuf : Space → Nat
  | .hbm => 63
  | .vmem => 0
  | .smem => 0
  | _ => 0

abbrev bufTy : (tb : Table) → Fin (tcTables nBuf tb) → BufTy
  | .hbm, ⟨0, _⟩ => ⟨S32x768x24x24, .f32⟩
  | .hbm, ⟨1, _⟩ => ⟨S512x768, .f32⟩
  | .hbm, ⟨2, _⟩ => ⟨S512x768, .f32⟩
  | .hbm, ⟨3, _⟩ => ⟨S24, .i32⟩
  | .hbm, ⟨4, _⟩ => ⟨S1x24, .i32⟩
  | .hbm, ⟨5, _⟩ => ⟨S_, .i32⟩
  | .hbm, ⟨6, _⟩ => ⟨S1x24, .i32⟩
  | .hbm, ⟨7, _⟩ => ⟨S1x24, .i1⟩
  | .hbm, ⟨8, _⟩ => ⟨S_, .i32⟩
  | .hbm, ⟨9, _⟩ => ⟨S1x24, .i32⟩
  | .hbm, ⟨10, _⟩ => ⟨S1x24, .i32⟩
  | .hbm, ⟨11, _⟩ => ⟨S1x24, .i32⟩
  | .hbm, ⟨12, _⟩ => ⟨S1x24x1, .i32⟩
  | .hbm, ⟨13, _⟩ => ⟨S1, .i32⟩
  | .hbm, ⟨14, _⟩ => ⟨S_, .i32⟩
  | .hbm, ⟨15, _⟩ => ⟨S1x24x1, .i32⟩
  | .hbm, ⟨16, _⟩ => ⟨S1x24x1, .i1⟩
  | .hbm, ⟨17, _⟩ => ⟨S1x1x1, .i32⟩
  | .hbm, ⟨18, _⟩ => ⟨S1x24x1, .i32⟩
  | .hbm, ⟨19, _⟩ => ⟨S1x24x1, .i1⟩
  | .hbm, ⟨20, _⟩ => ⟨S1x24x1, .i1⟩
  | .hbm, ⟨21, _⟩ => ⟨S_, .i1⟩
  | .hbm, ⟨22, _⟩ => ⟨S1x24, .i1⟩
  | .hbm, ⟨23, _⟩ => ⟨S1x24x768, .f32⟩
  | .hbm, ⟨24, _⟩ => ⟨S1x24x768, .i1⟩
  | .hbm, ⟨25, _⟩ => ⟨S_, .f32⟩
  | .hbm, ⟨26, _⟩ => ⟨S1x24x768, .f32⟩
  | .hbm, ⟨27, _⟩ => ⟨S1x24x768, .f32⟩
  | .hbm, ⟨28, _⟩ => ⟨S1x24x1x768, .f32⟩
  | .hbm, ⟨29, _⟩ => ⟨S24, .i32⟩
  | .hbm, ⟨30, _⟩ => ⟨S1x24, .i32⟩
  | .hbm, ⟨31, _⟩ => ⟨S_, .i32⟩
  | .hbm, ⟨32, _⟩ => ⟨S1x24, .i32⟩
  | .hbm, ⟨33, _⟩ => ⟨S1x24, .i1⟩
  | .hbm, ⟨34, _⟩ => ⟨S_, .i32⟩
  | .hbm, ⟨35, _⟩ => ⟨S1x24, .i32⟩
  | .hbm, ⟨36, _⟩ => ⟨S1x24, .i32⟩
  | .hbm, ⟨37, _⟩ => ⟨S1x24, .i32⟩
  | .hbm, ⟨38, _⟩ => ⟨S1x24x1, .i32⟩
  | .hbm, ⟨39, _⟩ => ⟨S1, .i32⟩
  | .hbm, ⟨40, _⟩ => ⟨S_, .i32⟩
  | .hbm, ⟨41, _⟩ => ⟨S1x24x1, .i32⟩
  | .hbm, ⟨42, _⟩ => ⟨S1x24x1, .i1⟩
  | .hbm, ⟨43, _⟩ => ⟨S1x1x1, .i32⟩
  | .hbm, ⟨44, _⟩ => ⟨S1x24x1, .i32⟩
  | .hbm, ⟨45, _⟩ => ⟨S1x24x1, .i1⟩
  | .hbm, ⟨46, _⟩ => ⟨S1x24x1, .i1⟩
  | .hbm, ⟨47, _⟩ => ⟨S_, .i1⟩
  | .hbm, ⟨48, _⟩ => ⟨S1x24, .i1⟩
  | .hbm, ⟨49, _⟩ => ⟨S1x24x768, .f32⟩
  | .hbm, ⟨50, _⟩ => ⟨S1x24x768, .i1⟩
  | .hbm, ⟨51, _⟩ => ⟨S_, .f32⟩
  | .hbm, ⟨52, _⟩ => ⟨S1x24x768, .f32⟩
  | .hbm, ⟨53, _⟩ => ⟨S1x24x768, .f32⟩
  | .hbm, ⟨54, _⟩ => ⟨S1x1x24x768, .f32⟩
  | .hbm, ⟨55, _⟩ => ⟨S1x24x24x768, .f32⟩
  | .hbm, ⟨56, _⟩ => ⟨S1x24x24x768, .f32⟩
  | .hbm, ⟨57, _⟩ => ⟨S1x24x24x768, .f32⟩
  | .hbm, ⟨58, _⟩ => ⟨S1x576x768, .f32⟩
  | .hbm, ⟨59, _⟩ => ⟨S32x24x24x768, .f32⟩
  | .hbm, ⟨60, _⟩ => ⟨S32x576x768, .f32⟩
  | .hbm, ⟨61, _⟩ => ⟨S32x576x768, .f32⟩
  | .hbm, ⟨62, _⟩ => ⟨S32x576x768, .f32⟩
  | _, _ => ⟨S32x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩

abbrev nD : Nat := 1
abbrev τ : Topo := Topo.v7x

variable {F : FTy → Type} [FloatOps F]
-- ==== Proof.Spec.lean ====
/-
  What the problem computes, written index by index: `Spec.out v x y` adds to channel `d` of the pixel in row `w` and
  column `h` of image `b` the sum `x[w, d] + y[h, d]`, pixels numbered `s = 24 * w + h`. No program appears here.
-/
module

public import Idealize.ShloMosaic.PureOps.BitExact
public import Idealize.ShloMosaic.Lib.Pointwise

@[expose] public section

noncomputable section

namespace Cert.Spec

open Idealize.ShloMosaic

variable {F : FTy → Type} [FloatOps F]

/-- The row of the image that pixel `s` of the flattened image lies in. -/
abbrev rowOf (s : Fin 576) : Fin 24 := ⟨s.val / 24, by omega⟩
/-- Its column. -/
abbrev colOf (s : Fin 576) : Fin 24 := ⟨s.val % 24, Nat.mod_lt _ (by decide)⟩
/-- A position of the image as an entry of the table, of which the first 24 rows are used. -/
abbrev entry (p : Fin 24) : Fin 512 := ⟨p.val, by omega⟩

/-- The position embedding of pixel `s`, channel `d`: its row's entry of the first table plus its column's of the second. -/
def pos (x y : (⟨2, ![512, 768]⟩ : Shape).Idx → F .f32) (s : Fin 576) (d : Fin 768) : F .f32 :=
  FloatOps.addf (x (ix2 (entry (rowOf s)) d)) (y (ix2 (entry (colOf s)) d))

/-- The result at image `b`, pixel `s`, channel `d`. -/
def out (v : (⟨4, ![32, 768, 24, 24]⟩ : Shape).Idx → F .f32) (x y : (⟨2, ![512, 768]⟩ : Shape).Idx → F .f32) :
    (⟨3, ![32, 576, 768]⟩ : Shape).Idx → F .f32 := fun i =>
  FloatOps.addf (v (ix4 (i 0) (i 2) (rowOf (i 1)) (colOf (i 1)))) (pos x y (i 1) (i 2))

end Cert.Spec

end
-- ==== Proof.KernelValue.lean ====
module

public import proofs.«01_k».proof.Proof.Spec
public import proofs.«01_k».proof.Proof.Gen.KernelIdeal.Value
public import Idealize.ShloMosaic.Lib.Pointwise
public import Idealize.ShloMosaic.Lib.Tactic
public import Idealize.ShloMosaic.Lib.Pipeline.ValueKit

/-! The kernel's result as a closed form of its arguments. The grid has eight points. The first one adds the two tables into
the scratch array, every later one finds that sum there, and each point adds it to four images. -/

@[expose] public section

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The scratch array at pixel `s` and channel `d`: the first table at the pixel's row plus the second at its column. -/
theorem pay1_apply (x y : Vec F S24x768 .f32) (j : S576x768.Idx) :
    k0_pay1 x y j = FloatOps.addf (x (ix2 (Spec.rowOf (j 0)) (j 1))) (y (ix2 (Spec.colOf (j 0)) (j 1))) := by
  unfold k0_pay1
  simp only [pointwise]
  rfl

/-- The stored block: each image of `v` plus the position embedding `p`. -/
theorem pay2_apply (v : Vec F S4x576x768 .f32) (p : Vec F S576x768 .f32) (j : S4x576x768.Idx) :
    k0_pay2 v p j = FloatOps.addf (v j) (p (ix2 (j 1) (j 2))) := by
  unfold k0_pay2
  simp only [pointwise]
  rfl

/-- The images a point reads begin at 0 in its block of eight at an even point and at 4 at an odd one. -/
theorem off1_eq (t : Fin cfg0.N) : k0_off1 (grid0.coords t) = ![t.val % 2 * 4, 0, 0] := by
  revert t
  exact (by decide +kernel : ∀ t : Fin grid0.N, k0_off1 (grid0.coords t) = ![t.val % 2 * 4, 0, 0])

/-- What point `t` reads of its block of eight images: the first four at an even point, the last four at an odd one. -/
abbrev half (t : Fin cfg0.N) (x : Vec F S8x576x768 .f32) : Vec F S4x576x768 .f32 :=
  View.ld x (Rect.unit (s := S8x576x768) (k0_off1 (grid0.coords t)) S4x576x768.size (k0_off1_inb (grid0.coords t)))

/-- The first point stores its half of the block plus the sum of the tables, and leaves that sum in the scratch array. -/
theorem outs_A (c : Dev nD) (t : Fin cfg0.N) (h0 : t.val % 8 = 0) :
    outsAt0 m c t.val t.isLt
      = (k0_pay2 (half t (iblk m c 0 t)) (k0_pay1 (X0_1 m c t) (X0_2 m c t)), k0_pay1 (X0_1 m c t) (X0_2 m c t)) := by
  rw [outsAt0_A m c t h0]
  refine Prod.ext ?_ ?_ <;> dsimp only <;> frame_out

/-- A later point stores its half of the block plus what the point before it left in the scratch array, and leaves it there. -/
theorem outs_B (c : Dev nD) (t : Fin cfg0.N) (h0 : ¬t.val % 8 = 0) :
    outsAt0 m c t.val t.isLt
      = (k0_pay2 (half t (iblk m c 0 t)) (outsAt0 m c (t.val - 1) (Nat.lt_of_le_of_lt (Nat.sub_le _ _) t.isLt)).2,
          (outsAt0 m c (t.val - 1) (Nat.lt_of_le_of_lt (Nat.sub_le _ _) t.isLt)).2) := by
  rw [outsAt0_B m c t h0]
  refine Prod.ext ?_ ?_ <;> dsimp only
  · frame_out
    exact congrArg (k0_pay2 _) ((Memref.isWhole_whole cc0_scratch0).read_unread _)
  · rfl

/-- The first grid point. -/
abbrev t0 : Fin cfg0.N := ⟨0, by rw [show cfg0.N = 8 from N_0]; decide⟩

/-- So every point uses the sum of the tables that the first one formed. -/
theorem outs_eq (c : Dev nD) : ∀ (n : ℕ) (hn : n < cfg0.N), outsAt0 m c n hn
      = (k0_pay2 (half ⟨n, hn⟩ (iblk m c 0 ⟨n, hn⟩)) (k0_pay1 (X0_1 m c t0) (X0_2 m c t0)), k0_pay1 (X0_1 m c t0) (X0_2 m c t0))
  | 0, hn => outs_A m c ⟨0, hn⟩ rfl
  | n + 1, hn => by
    have hN := lt_of_lt_of_eq hn (show cfg0.N = 8 from N_0)
    have h := outs_B m c ⟨n + 1, hn⟩ (by dsimp only; omega)
    simp only [Nat.add_sub_cancel, outs_eq c n] at h
    exact h

/-- The features as the region finds them: channels last, the pixels of an image in one axis. -/
theorem V_v1_apply (c : Dev nD) (i : S32x576x768.Idx) :
    V m c main_v1 i = m ((c : Thread nD τ).loc main_arg0) (ix4 (i 0) (i 2) (Spec.rowOf (i 1)) (Spec.colOf (i 1))) := by
  have h : V m c main_v1 = shapeCast S32x576x768 (transpose S32x24x24x768 [0, 2, 3, 1] (m ((c : Thread nD τ).loc main_arg0)) transposes_S32x768x24x24_S32x24x24x768_0_2_3_1) shapeCasts_S32x24x24x768_S32x576x768 := rfl
  rw [h]
  simp only [pointwise]

/-- Two points in a row read the same block of eight images. -/
theorem index0 : ∀ t : Fin cfg0.N, win0_0.index t (0 : Fin 3) = t.val / 2 ∧ win0_0.index t (1 : Fin 3) = 0 ∧ win0_0.index t (2 : Fin 3) = 0 :=
  (by decide +kernel : ∀ t : Fin grid0.N, _)
/-- The first table's block begins at its origin. -/
theorem index1 : ∀ a : Fin 2, win0_1.index t0 a = 0 := by decide +kernel
/-- The second table's block begins at its origin. -/
theorem index2 : ∀ a : Fin 2, win0_2.index t0 a = 0 := by decide +kernel

/-- The half of the block that point `t` reads holds images `4 t` to `4 t + 3`. -/
theorem half_apply (c : Dev nD) (t : Fin cfg0.N) (j : S4x576x768.Idx) :
    half t (iblk m c 0 t) j = V m c main_v1 (ix3 ⟨4 * t.val + (j 0).val, by
      have h := (j 0).isLt; have hN := lt_of_lt_of_eq t.isLt (show cfg0.N = 8 from N_0); change (j 0).val < 4 at h; omega⟩ (j 1) (j 2)) := by
  obtain ⟨e0, e1, e2⟩ := index0 t
  have o := off1_eq t
  have o0 : k0_off1 (grid0.coords t) 0 = t.val % 2 * 4 := congrFun o 0
  have o1 : k0_off1 (grid0.coords t) 1 = 0 := congrFun o 1
  have o2 : k0_off1 (grid0.coords t) 2 = 0 := congrFun o 2
  refine congrArg (V m c main_v1) (funext fun a => Fin.ext ?_)
  match a with
  | ⟨0, _⟩ =>
    show win0_0.index t (0 : Fin 3) * 8 + 1 * (k0_off1 (grid0.coords t) 0 + 1 * (j 0).val) = 4 * t.val + (j 0).val
    omega
  | ⟨1, _⟩ =>
    show win0_0.index t (1 : Fin 3) * 576 + 1 * (k0_off1 (grid0.coords t) 1 + 1 * (j 1).val) = (j 1).val
    omega
  | ⟨2, _⟩ =>
    show win0_0.index t (2 : Fin 3) * 768 + 1 * (k0_off1 (grid0.coords t) 2 + 1 * (j 2).val) = (j 2).val
    omega

/-- The first table's block is its first 24 rows. -/
theorem X1_apply (c : Dev nD) (p : Fin 24) (d : Fin 768) :
    X0_1 m c t0 (ix2 p d) = m ((c : Thread nD τ).loc main_arg1) (ix2 (Spec.entry p) d) := by
  unfold X0_1 Pipeline.Window.fill
  rw [dif_pos (moved0_1 t0 _)]
  unfold iblk
  rw [← V_main_arg1 m c]
  refine congrArg (V m c main_arg1) (funext fun a => Fin.ext ?_)
  match a with
  | ⟨0, _⟩ =>
    show win0_1.index t0 (0 : Fin 2) * 24 + 1 * p.val = p.val
    rw [index1]; omega
  | ⟨1, _⟩ =>
    show win0_1.index t0 (1 : Fin 2) * 768 + 1 * d.val = d.val
    rw [index1]; omega

/-- So is the second's. -/
theorem X2_apply (c : Dev nD) (p : Fin 24) (d : Fin 768) :
    X0_2 m c t0 (ix2 p d) = m ((c : Thread nD τ).loc main_arg2) (ix2 (Spec.entry p) d) := by
  unfold X0_2 Pipeline.Window.fill
  rw [dif_pos (moved0_2 t0 _)]
  unfold iblk
  rw [← V_main_arg2 m c]
  refine congrArg (V m c main_arg2) (funext fun a => Fin.ext ?_)
  match a with
  | ⟨0, _⟩ =>
    show win0_2.index t0 (0 : Fin 2) * 24 + 1 * p.val = p.val
    rw [index2]; omega
  | ⟨1, _⟩ =>
    show win0_2.index t0 (1 : Fin 2) * 768 + 1 * d.val = d.val
    rw [index2]; omega

/-- The kernel's result array is the one `Spec.out` describes. -/
theorem result_eq (c : Dev nD) : G3 m c = Spec.out (m ((c : Thread nD τ).loc main_arg0))
    (m ((c : Thread nD τ).loc main_arg1)) (m ((c : Thread nD τ).loc main_arg2)) := by
  funext i
  have h0 : (i 0).val < 32 := (i 0).isLt
  have h1 : (i 1).val < 576 := (i 1).isLt
  have h2 : (i 2).val < 768 := (i 2).isLt
  have hp : pt3Of i = (i 0).val / 4 := by unfold pt3Of run3Of; omega
  have hN : pt3Of i < cfg0.N := by rw [hp, show cfg0.N = 8 from N_0]; omega
  unfold G3
  rw [dif_pos hN, ← outsAt0_sweep m c (pt3Of i) hN, outs_eq]
  dsimp only
  have l1 : (loc3Of i 1 : Fin 576) = i 1 := Fin.ext (Nat.mod_eq_of_lt h1)
  have l2 : (loc3Of i 2 : Fin 768) = i 2 := Fin.ext (Nat.mod_eq_of_lt h2)
  have l0 : 4 * pt3Of i + (i 0).val % 4 = (i 0).val := by omega
  rw [pay2_apply, pay1_apply]
  refine congrArg₂ FloatOps.addf ((half_apply m c _ _).trans ((V_v1_apply m c _).trans (congrArg (m _) ?_)))
    (congrArg₂ FloatOps.addf ((X1_apply m c (Spec.rowOf (loc3Of i 1)) (loc3Of i 2)).trans (congrArg (m _) ?_))
      ((X2_apply m c (Spec.colOf (loc3Of i 1)) (loc3Of i 2)).trans (congrArg (m _) ?_)))
  · have e : ∀ (a a' : Fin 32) (s s' : Fin 576) (d d' : Fin 768), a = a' → s = s' → d = d' →
        ix4 a d (Spec.rowOf s) (Spec.colOf s) = ix4 a' d' (Spec.rowOf s') (Spec.colOf s') := by
      rintro _ _ _ _ _ _ rfl rfl rfl; rfl
    exact e _ _ _ _ _ _ (Fin.ext l0) l1 l2
  · rw [l1, l2]
  · rw [l1, l2]

end Cert.KernelIdeal.Value

end
-- ==== Proof.ReferenceValue.lean ====
module

public import proofs.«01_k».proof.Proof.Spec
public import proofs.«01_k».proof.Proof.Gen.ReferenceIdeal.Run
public import Idealize.ShloMosaic.Lib.Pointwise

/-! The reference's result as a closed form of its arguments. `jnp.take` prints as a gather at wrapped positions with a
range test around it; here the positions are 0 to 23, so both do nothing. -/

@[expose] public section

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- The positions 0 to 23 along one side, a negative one counted from the table's end, as `jnp.take` prints them. -/
def starts : IVec S1x24x1 32 :=
  broadcastInDim S1x24x1 ![0, 1] bcast_S1x24_S1x24x1_0_1 (select (cmpi .slt (broadcastInDim S1x24 ![1] bcast_S24_S1x24_1 (iotaInDim S24 32 0)) (broadcastInDim S1x24 ![] bcast_S_S1x24 (constantI S_ 32 0#32))) (addi (broadcastInDim S1x24 ![1] bcast_S24_S1x24_1 (iotaInDim S24 32 0)) (broadcastInDim S1x24 ![] bcast_S_S1x24 (constantI S_ 32 512#32))) (broadcastInDim S1x24 ![1] bcast_S24_S1x24_1 (iotaInDim S24 32 0)))

/-- Whether each position, after that, lies in the table. -/
def inRange : IVec S1x24 1 :=
  Host.reduce IntOp.andi (andi (cmpi .sge starts (broadcastInDim S1x24x1 ![] bcast_S_S1x24x1 (constantI S_ 32 0#32))) (cmpi .sle starts (broadcastInDim S1x24x1 ![0, 1, 2] bcast_S1x1x1_S1x24x1_0_1_2 (broadcastInDim S1x1x1 ![2] bcast_S1_S1x1x1_2 (constantI S1 32 511#32))))) (constantI S_ 1 1#1) reducesTo_S1x24x1_S1x24_d2 h_S_

/-- Entry `w` of the list of positions is `w`: no position is negative. -/
theorem starts_apply (j : S1x24x1.Idx) : starts j = BitVec.ofNat 32 (j 1).val := by
  unfold starts
  simp only [pointwise]
  exact (by decide +kernel : ∀ w : Fin 24, Scalar.select (IntOp.cmpi CmpIPredicate.slt (BitVec.ofNat 32 w.val) 0#32)
    (IntOp.addi (BitVec.ofNat 32 w.val) 512#32) (BitVec.ofNat 32 w.val) = BitVec.ofNat 32 w.val) (j 1)

/-- Every position is inside the table. -/
theorem inRange_apply (j : S1x24.Idx) : inRange j = 1#1 := by
  unfold inRange
  simp only [pointwise, starts_apply]
  have h : IntOp.andi (IntOp.cmpi CmpIPredicate.sge (BitVec.ofNat 32 (j 1).val) 0#32)
      (IntOp.cmpi CmpIPredicate.sle (BitVec.ofNat 32 (j 1).val) 511#32) = 1#1 :=
    (by decide +kernel : ∀ w : Fin 24, IntOp.andi (IntOp.cmpi CmpIPredicate.sge (BitVec.ofNat 32 w.val) 0#32)
      (IntOp.cmpi CmpIPredicate.sle (BitVec.ofNat 32 w.val) 511#32) = 1#1) (j 1)
  simp only [h]
  decide +kernel

/-- The gather of whole rows, read at an index: row `w` of the result is row `starts[0, w, 0]` of the table, which is row `w`. -/
theorem gather_apply (x : Vec F S512x768 .f32) (j : S1x24x768.Idx) :
    Host.gather gather_S512x768_S1x24x1_S1x24x768_2_0_n_n_0_2_1768 x starts j = x (ix2 (Spec.entry (j 1)) (j 2)) := by
  unfold Host.gather
  refine congrArg x (funext fun a => Fin.ext ?_)
  show GatherDims.start _ j starts a + GatherDims.batchCoord _ j a + GatherDims.offCoord _ j a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hm : (0 : Fin 2) ∈ gather_S512x768_S1x24x1_S1x24x768_2_0_n_n_0_2_1768.startIndexMap := List.mem_singleton.mpr rfl
    refine (congrArg (fun n => n + 0 + 0) (dif_pos hm)).trans ?_
    rw [starts_apply]
    exact (by decide +kernel : ∀ w : Fin 24, min (BitVec.ofNat 32 w.val).toInt.toNat (512 - 1) + 0 + 0 = w.val) (j 1)
  | ⟨1, _⟩ => exact Nat.zero_add _

/-- `jnp.take` of the first 24 rows of a table: the gathered row where the position lies in the table, NaN elsewhere. -/
def take (x : Vec F S512x768 .f32) : Vec F S1x24x768 .f32 :=
  select (broadcastInDim S1x24x768 ![0, 1] bcast_S1x24_S1x24x768_0_1 inRange) (Host.gather gather_S512x768_S1x24x1_S1x24x768_2_0_n_n_0_2_1768 x starts) (broadcastInDim S1x24x768 ![] bcast_S_S1x24x768 (constant S_ .f32 0x7FC00000#32))

/-- Row `w` of what is taken is row `w` of the table. -/
theorem take_apply (x : Vec F S512x768 .f32) (j : S1x24x768.Idx) : take x j = x (ix2 (Spec.entry (j 1)) (j 2)) := by
  unfold take
  simp only [pointwise, inRange_apply]
  exact gather_apply x j

/-- The reference's result array is the one `Spec.out` describes. -/
theorem result_eq (m : (ℓ : Loc nD τ sig) → Buf (Elt F) ℓ) (c : Dev nD) :
    res_out0 m c = Spec.out (m ((c.tc : Thread nD τ).loc main_arg0)) (m ((c.tc : Thread nD τ).loc main_arg1)) (m ((c.tc : Thread nD τ).loc main_arg2)) := by
  have h : res_out0 m c = addf (shapeCast _ (transpose S32x24x24x768 [0, 2, 3, 1] (m ((c.tc : Thread nD τ).loc main_arg0)) transposes_S32x768x24x24_S32x24x24x768_0_2_3_1) shapeCasts_S32x24x24x768_S32x576x768) (broadcastInDim S32x576x768 ![0, 1, 2] bcast_S1x576x768_S32x576x768_0_1_2 (shapeCast _ (addf (broadcastInDim S1x24x24x768 ![0, 1, 2, 3] bcast_S1x24x1x768_S1x24x24x768_0_1_2_3 (broadcastInDim S1x24x1x768 ![0, 1, 3] bcast_S1x24x768_S1x24x1x768_0_1_3 (take (m ((c.tc : Thread nD τ).loc main_arg1))))) (broadcastInDim S1x24x24x768 ![0, 1, 2, 3] bcast_S1x1x24x768_S1x24x24x768_0_1_2_3 (broadcastInDim S1x1x24x768 ![0, 2, 3] bcast_S1x24x768_S1x1x24x768_0_2_3 (take (m ((c.tc : Thread nD τ).loc main_arg2)))))) shapeCasts_S1x24x24x768_S1x576x768)) := rfl
  rw [h]
  funext i
  simp only [pointwise, take_apply, Spec.out, Spec.pos]
  rfl

end Cert.ReferenceIdeal.Value

end
-- ==== Proof.lean ====
/-
  The proof of `Cert.Claim`. The frames are the generated ones. The value claim puts the kernel's run and the
  reference's run side by side: each leaves the array `Spec.out` of its arguments, and the arguments agree.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The reference, run on reals, finishes, leaves its arguments alone and every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference, both on reals, leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2⟩ := hagree c
  rw [(h c).1]
  refine (Cert.ReferenceIdeal.Value.result_eq m' c).trans ?_
  rw [e0, e1, e2]
  exact (Cert.KernelIdeal.Value.result_eq m c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
